-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.sign_bit.Statement Cert.KernelIdeal.S2048x1 .f32

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2097152 : Shape := ⟨1, ![2097152]⟩
abbrev S2097152x1 : Shape := ⟨2, ![2097152, 1]⟩
abbrev S2097152x19 : Shape := ⟨2, ![2097152, 19]⟩
abbrev S2048x1 : Shape := ⟨2, ![2048, 1]⟩
abbrev S2048x19 : Shape := ⟨2, ![2048, 19]⟩

abbrev nBuf : Space → Nat
  | .hbm => 3
  | .vmem => 4
  | .smem => 0
  | _ => 0

abbrev bufTy : (tb : Table) → Fin (tcTables nBuf tb) → BufTy
  | .hbm, ⟨0, _⟩ => ⟨S2097152, .f32⟩
  | .hbm, ⟨1, _⟩ => ⟨S2097152x1, .f32⟩
  | .hbm, ⟨2, _⟩ => ⟨S2097152x19, .f32⟩
  | .local _ .vmem, ⟨0, _⟩ => ⟨S2048x1, .f32⟩
  | .local _ .vmem, ⟨1, _⟩ => ⟨S2048x1, .f32⟩
  | .local _ .vmem, ⟨2, _⟩ => ⟨S2048x19, .f32⟩
  | .local _ .vmem, ⟨3, _⟩ => ⟨S2048x19, .f32⟩
  | _, _ => ⟨S2097152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x19 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelIdeal.lean ====
variable {F : FTy → Type} [FloatOps F]
-- ==== ReferenceIdeal.lean ====
abbrev S2097152 : Shape := ⟨1, ![2097152]⟩
abbrev S_ : Shape := ⟨0, ![]⟩
abbrev S2097152x19 : Shape := ⟨2, ![2097152, 19]⟩
abbrev S2097152x1 : Shape := ⟨2, ![2097152, 1]⟩
abbrev S2097152x2 : Shape := ⟨2, ![2097152, 2]⟩

abbrev nBuf : Space → Nat
  | .hbm => 82
  | .vmem => 0
  | .smem => 0
  | _ => 0

abbrev bufTy : (tb : Table) → Fin (tcTables nBuf tb) → BufTy
  | .hbm, ⟨0, _⟩ => ⟨S2097152, .f32⟩
  | .hbm, ⟨1, _⟩ => ⟨S2097152, .f32⟩
  | .hbm, ⟨2, _⟩ => ⟨S2097152, .f32⟩
  | .hbm, ⟨3, _⟩ => ⟨S_, .f32⟩
  | .hbm, ⟨4, _⟩ => ⟨S2097152, .f32⟩
  | .hbm, ⟨5, _⟩ => ⟨S2097152, .f32⟩
  | .hbm, ⟨6, _⟩ => ⟨S2097152, .f32⟩
  | .hbm, ⟨7, _⟩ => ⟨S_, .f32⟩
  | .hbm, ⟨8, _⟩ => ⟨S2097152, .f32⟩
  | .hbm, ⟨9, _⟩ => ⟨S2097152, .f32⟩
  | .hbm, ⟨10, _⟩ => ⟨S_, .f32⟩
  | .hbm, ⟨11, _⟩ => ⟨S2097152, .f32⟩
  | .hbm, ⟨12, _⟩ => ⟨S2097152, .f32⟩
  | .hbm, ⟨13, _⟩ => ⟨S2097152, .f32⟩
  | .hbm, ⟨14, _⟩ => ⟨S2097152, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S2097152, .f32⟩
  | .hbm, ⟨19, _⟩ => ⟨S2097152, .f32⟩
  | .hbm, ⟨20, _⟩ => ⟨S_, .f32⟩
  | .hbm, ⟨21, _⟩ => ⟨S2097152, .f32⟩
  | .hbm, ⟨22, _⟩ => ⟨S2097152, .f32⟩
  | .hbm, ⟨23, _⟩ => ⟨S2097152, .f32⟩
  | .hbm, ⟨24, _⟩ => ⟨S2097152, .f32⟩
  | .hbm, ⟨25, _⟩ => ⟨S2097152, .i32⟩
  | .hbm, ⟨26, _⟩ => ⟨S2097152, .i32⟩
  | .hbm, ⟨27, _⟩ => ⟨S_, .f32⟩
  | .hbm, ⟨28, _⟩ => ⟨S2097152x19, .f32⟩
  | .hbm, ⟨29, _⟩ => ⟨S_, .f32⟩
  | .hbm, ⟨30, _⟩ => ⟨S2097152, .f32⟩
  | .hbm, ⟨31, _⟩ => ⟨S2097152, .f32⟩
  | .hbm, ⟨32, _⟩ => ⟨S_, .i32⟩
  | .hbm, ⟨33, _⟩ => ⟨S2097152, .i32⟩
  | .hbm, ⟨34, _⟩ => ⟨S2097152, .i1⟩
  | .hbm, ⟨35, _⟩ => ⟨S_, .i32⟩
  | .hbm, ⟨36, _⟩ => ⟨S2097152, .i32⟩
  | .hbm, ⟨37, _⟩ => ⟨S2097152, .i32⟩
  | .hbm, ⟨38, _⟩ => ⟨S2097152, .i32⟩
  | .hbm, ⟨39, _⟩ => ⟨S_, .i32⟩
  | .hbm, ⟨40, _⟩ => ⟨S2097152, .i32⟩
  | .hbm, ⟨41, _⟩ => ⟨S2097152, .i1⟩
  | .hbm, ⟨42, _⟩ => ⟨S_, .i32⟩
  | .hbm, ⟨43, _⟩ => ⟨S2097152, .i32⟩
  | .hbm, ⟨44, _⟩ => ⟨S2097152, .i32⟩
  | .hbm, ⟨45, _⟩ => ⟨S2097152, .i32⟩
  | .hbm, ⟨46, _⟩ => ⟨S2097152x1, .i32⟩
  | .hbm, ⟨47, _⟩ => ⟨S2097152x1, .i32⟩
  | .hbm, ⟨48, _⟩ => ⟨S2097152x2, .i32⟩
  | .hbm, ⟨49, _⟩ => ⟨S2097152x19, .f32⟩
  | .hbm, ⟨50, _⟩ => ⟨S_, .i32⟩
  | .hbm, ⟨51, _⟩ => ⟨S2097152, .i32⟩
  | .hbm, ⟨52, _⟩ => ⟨S2097152, .i32⟩
  | .hbm, ⟨53, _⟩ => ⟨S_, .i32⟩
  | .hbm, ⟨54, _⟩ => ⟨S2097152, .i32⟩
  | .hbm, ⟨55, _⟩ => ⟨S2097152, .i1⟩
  | .hbm, ⟨56, _⟩ => ⟨S_, .i32⟩
  | .hbm, ⟨57, _⟩ => ⟨S_, .i32⟩
  | .hbm, ⟨58, _⟩ => ⟨S2097152, .i32⟩
  | .hbm, ⟨59, _⟩ => ⟨S2097152, .i32⟩
  | .hbm, ⟨60, _⟩ => ⟨S_, .f32⟩
  | .hbm, ⟨61, _⟩ => ⟨S_, .f32⟩
  | .hbm, ⟨62, _⟩ => ⟨S2097152, .f32⟩
  | .hbm, ⟨63, _⟩ => ⟨S2097152, .f32⟩
  | .hbm, ⟨64, _⟩ => ⟨S_, .i32⟩
  | .hbm, ⟨65, _⟩ => ⟨S2097152, .i32⟩
  | .hbm, ⟨66, _⟩ => ⟨S2097152, .i1⟩
  | .hbm, ⟨67, _⟩ => ⟨S_, .i32⟩
  | .hbm, ⟨68, _⟩ => ⟨S2097152, .i32⟩
  | .hbm, ⟨69, _⟩ => ⟨S2097152, .i32⟩
  | .hbm, ⟨70, _⟩ => ⟨S2097152, .i32⟩
  | .hbm, ⟨71, _⟩ => ⟨S_, .i32⟩
  | .hbm, ⟨72, _⟩ => ⟨S2097152, .i32⟩
  | .hbm, ⟨73, _⟩ => ⟨S2097152, .i1⟩
  | .hbm, ⟨74, _⟩ => ⟨S_, .i32⟩
  | .hbm, ⟨75, _⟩ => ⟨S2097152, .i32⟩
  | .hbm, ⟨76, _⟩ => ⟨S2097152, .i32⟩
  | .hbm, ⟨77, _⟩ => ⟨S2097152, .i32⟩
  | .hbm, ⟨78, _⟩ => ⟨S2097152x1, .i32⟩
  | .hbm, ⟨79, _⟩ => ⟨S2097152x1, .i32⟩
  | .hbm, ⟨80, _⟩ => ⟨S2097152x2, .i32⟩
  | .hbm, ⟨81, _⟩ => ⟨S2097152x19, .f32⟩
  | _, _ => ⟨S2097152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_cst_3 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_7 : Ref sig .tc := ⟨.hbm, 39, rfl⟩
abbrev main_v24 : Ref sig .tc := ⟨.hbm, 40, rfl⟩
abbrev main_v25 : Ref sig .tc := ⟨.hbm, 41, rfl⟩
abbrev main_c_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_9 : Ref sig .tc := ⟨.hbm, 50, rfl⟩
abbrev main_v33 : Ref sig .tc := ⟨.hbm, 51, rfl⟩
abbrev main_v34 : Ref sig .tc := ⟨.hbm, 52, rfl⟩
abbrev main_c_10 : Ref sig .tc := ⟨.hbm, 53, rfl⟩
abbrev main_v35 : Ref sig .tc := ⟨.hbm, 54, rfl⟩
abbrev main_v36 : Ref sig .tc := ⟨.hbm, 55, rfl⟩
abbrev main_c_11 : Ref sig .tc := ⟨.hbm, 56, rfl⟩
abbrev main_call1_v0 : Ref sig .tc := ⟨.hbm, 57, rfl⟩
abbrev main_call1_v1 : Ref sig .tc := ⟨.hbm, 58, rfl⟩
abbrev main_v37 : Ref sig .tc := ⟨.hbm, 59, rfl⟩
abbrev main_cst_12 : Ref sig .tc := ⟨.hbm, 60, rfl⟩
abbrev main_call2_v0 : Ref sig .tc := ⟨.hbm, 61, rfl⟩
abbrev main_call2_v1 : Ref sig .tc := ⟨.hbm, 62, rfl⟩
abbrev main_v38 : Ref sig .tc := ⟨.hbm, 63, rfl⟩
abbrev main_c_13 : Ref sig .tc := ⟨.hbm, 64, rfl⟩
abbrev main_v39 : Ref sig .tc := ⟨.hbm, 65, rfl⟩
abbrev main_v40 : Ref sig .tc := ⟨.hbm, 66, rfl⟩
abbrev main_c_14 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_15 : Ref sig .tc := ⟨.hbm, 71, rfl⟩
abbrev main_v44 : Ref sig .tc := ⟨.hbm, 72, rfl⟩
abbrev main_v45 : Ref sig .tc := ⟨.hbm, 73, rfl⟩
abbrev main_c_16 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩

abbrev nD : Nat := 1
abbrev τ : Topo := Topo.v7x

variable {F : FTy → Type} [FloatOps F]
-- ==== Proof.TwoHot.lean ====
/-
  The two-hot encoding of one number, as mathematics over the extended reals.

  A number `x` is first squashed, `sign x · ((√(|x| + 1) − 1) + ε·x)`, and clipped to `[0, 19]`: `squash x`. The
  whole part of the result is the bucket, its fractional part the share of the next bucket. `entry x j` is what
  column `j` of `x`'s row holds: one minus the fraction at the bucket, the fraction at the bucket after it, zero
  elsewhere. The facts below are the ones both programs need: the squashed number lies between 0 and 19, so
  its bucket is one of 0 … 19, and converting it to a word, with or without taking the floor first, gives that bucket.
-/
module

public import Idealize.ShloMosaic.PureOps.Ideal.Laws
public import Idealize.ShloMosaic.Lib.IdealHost

@[expose] public section

noncomputable section

namespace Cert.TwoHot

open Idealize.ShloMosaic

/-- The pattern of 19 denotes 19. -/
theorem nineteen : Ideal.ofBits .f32 0x41980000#32 = ((19 : ℝ) : EReal) := by
  simp [Ideal.ofBits, Ideal.ieee]
  rw [← EReal.coe_mul]
  norm_num

/-- The squashed number, clipped to `[0, 19]`. -/
def squash (x : EReal) : EReal :=
  min (Ideal.ofBits .f32 0x41980000#32) (max (Ideal.ofBits .f32 0x00000000#32)
    (Ideal.sign x * ((Ideal.sqrt (max x (-x) + Ideal.ofBits .f32 0x3F800000#32) - Ideal.ofBits .f32 0x3F800000#32)
      + Ideal.ofBits .f32 0x3A83126F#32 * x)))

/-- The squashed number is not negative. -/
theorem squash_nonneg (x : EReal) : 0 ≤ squash x := by
  unfold squash
  rw [nineteen, Ideal.ofBits_zero_f32]
  refine le_min ?_ (le_max_left _ _)
  exact_mod_cast (by norm_num : (0 : ℝ) ≤ 19)

/-- The squashed number is at most 19. -/
theorem squash_le (x : EReal) : squash x ≤ ((19 : ℝ) : EReal) := by
  unfold squash
  rw [nineteen]
  exact min_le_left _ _

/-- The bucket of a number: the whole part of its squashed value. -/
def bucket (x : EReal) : ℕ := ⌊(squash x).toReal⌋.toNat

/-- The squashed number is a real number between 0 and 19 whose floor is the bucket. -/
theorem squash_real (x : EReal) : ∃ r : ℝ, squash x = (r : EReal) ∧ 0 ≤ r ∧ ⌊r⌋ = (bucket x : ℤ) ∧ bucket x ≤ 19 := by
  have h0 := squash_nonneg x
  have h1 := squash_le x
  have hb : squash x ≠ ⊥ := fun h => by rw [h] at h0; exact absurd h0 (by simp)
  have ht : squash x ≠ ⊤ := fun h => by rw [h] at h1; exact absurd h1 (by simp)
  have e : squash x = ((squash x).toReal : EReal) := (EReal.coe_toReal ht hb).symm
  have r0 : 0 ≤ (squash x).toReal := by rw [e] at h0; exact_mod_cast h0
  have r1 : (squash x).toReal ≤ 19 := by rw [e] at h1; exact_mod_cast h1
  have f0 : 0 ≤ ⌊(squash x).toReal⌋ := Int.floor_nonneg.2 r0
  have f1 : ⌊(squash x).toReal⌋ ≤ 19 := by
    have : (⌊(squash x).toReal⌋ : ℝ) ≤ 19 := (Int.floor_le _).trans r1
    exact_mod_cast this
  refine ⟨_, e, r0, ?_, ?_⟩ <;> unfold bucket <;> omega

/-- The bucket is one of 0 … 19. -/
theorem bucket_le (x : EReal) : bucket x ≤ 19 := by
  obtain ⟨_, _, _, _, h⟩ := squash_real x
  exact h

/-- A real number with floor `n ≤ 19`, not negative, converts to the word `n`. -/
theorem word_of_floor (r : ℝ) (n : ℕ) (h0 : 0 ≤ r) (hf : ⌊r⌋ = (n : ℤ)) (hn : n ≤ 19) :
    Ideal.fptosi 32 (r : EReal) = BitVec.ofNat 32 n := by
  unfold Ideal.fptosi
  rw [Ideal.toIntClamped_coe, if_pos h0, hf, min_eq_right (by norm_num; omega), max_eq_right (by norm_num)]
  exact BitVec.ofInt_natCast 32 n

/-- The squashed number converts to the word of its bucket. -/
theorem word_squash (x : EReal) : Ideal.fptosi 32 (squash x) = BitVec.ofNat 32 (bucket x) := by
  obtain ⟨r, e, h0, hf, hn⟩ := squash_real x
  rw [e]
  exact word_of_floor r _ h0 hf hn

/-- The floor of the squashed number is its bucket. -/
theorem floor_squash (x : EReal) : Ideal.liftRound Int.floor (squash x) = ((bucket x : ℝ) : EReal) := by
  obtain ⟨r, e, h0, hf, hn⟩ := squash_real x
  rw [e, Ideal.liftRound_coe, hf]
  rfl

/-- The bucket, as a real number, converts to its word. -/
theorem word_bucket (x : EReal) : Ideal.fptosi 32 ((bucket x : ℝ) : EReal) = BitVec.ofNat 32 (bucket x) :=
  word_of_floor _ _ (by positivity) (by simp) (bucket_le x)

/-- The word of a small number, read as a signed integer, is the number. -/
theorem toInt_word (n : ℕ) (h : n ≤ 20) : (BitVec.ofNat 32 n).toInt = (n : ℤ) := by
  rw [BitVec.toInt_ofNat']
  simp only [Int.bmod]
  split <;> omega

/-- The fraction of the squashed number above its bucket. -/
def frac (x : EReal) : EReal := squash x - ((bucket x : ℝ) : EReal)

/-- Column `j` of the two-hot row of `x`. -/
def entry (x : EReal) (j : ℕ) : EReal :=
  if j = bucket x then Ideal.ofBits .f32 0x3F800000#32 - frac x else if j = bucket x + 1 then frac x else 0

/-- The row written as a sum of two one-hot rows, each holding its share at one column and zero elsewhere. -/
theorem entry_eq_add (x : EReal) (j : ℕ) :
    (if j = bucket x then Ideal.ofBits .f32 0x3F800000#32 - frac x else 0) + (if j = bucket x + 1 then frac x else 0) = entry x j := by
  unfold entry
  by_cases h : j = bucket x
  · rw [if_pos h, if_pos h, if_neg (by omega), add_zero]
  · rw [if_neg h, if_neg h, zero_add]

end Cert.TwoHot
-- ==== Proof.KernelValue.lean ====
/-
  The kernel's result, entry by entry: row `i`, column `j` is column `j` of the two-hot row of the argument's
  entry `i`. Grid point `t` writes rows `2048·t … 2048·t + 2047`, each from the same row of its input block, and the
  input is the argument set out as one column; the points' blocks fill the result.
-/
module

public import proofs.«01_k».proof.Proof.Gen.KernelIdeal.Value
public import proofs.«01_k».proof.Proof.TwoHot
public import Idealize.ShloMosaic.Lib.Routing.Ops
public import Idealize.ShloMosaic.Lib.Pipeline.Value

@[expose] public section

noncomputable section

namespace Cert.KernelIdeal.TwoHotValue

open Cert.KernelIdeal Cert.KernelIdeal.Gen Idealize.ShloMosaic Idealize.ShloMosaic.TcCoe Idealize.SL.Sem
open Idealize.ShloMosaic.ValueIdx Idealize.ShloMosaic.Routing Cert.TwoHot
open Idealize.ShloMosaic.Pipeline (Dat)

/-! ## What the body computes of one block -/

/-- A column spread over 19 columns reads the column's entry of the same row. -/
theorem spread_at {α : Type} (v : S2048x1.Idx → α) (r : Fin 2048) (j : Fin 19) :
    broadcastTo S2048x19 v broadcasts_S2048x1_S2048x19 (ix2 r j) = v (ix2 r 0) := by
  refine broadcastTo_apply v _ _ _ fun a => ?_
  match a with
  | ⟨0, _⟩ => rfl
  | ⟨1, _⟩ => rfl

/-- A column cast to its own shape is itself. -/
theorem cast_self {α : Type} (v : S2048x1.Idx → α) : shapeCast S2048x1 v shapeCasts_S2048x1_S2048x1 = v :=
  funext fun i => shapeCast_apply v _ i i rfl

/-- The squashed numbers of a block. -/
def squashes (x : FVec Ideal S2048x1 .f32) : FVec Ideal S2048x1 .f32 :=
  minimumf (broadcast S2048x1 (Scalar.ofBits .f32 0x41980000#32)) (maximumf (broadcast S2048x1 (Scalar.ofBits .f32 0x00000000#32))
    (mulf (select (cmpf .ogt (absf x) (broadcast S2048x1 (Scalar.ofBits .f32 0x00000000#32)))
        (select (cmpf .olt x (constant S2048x1 .f32 0x00000000#32)) (constant S2048x1 .f32 0xBF800000#32) (constant S2048x1 .f32 0x3F800000#32)) x)
      (addf (subf (sqrt (addf (absf x) (broadcast S2048x1 (Scalar.ofBits .f32 0x3F800000#32)))) (broadcast S2048x1 (Scalar.ofBits .f32 0x3F800000#32)))
        (mulf (broadcast S2048x1 (Scalar.ofBits .f32 0x3A83126F#32)) x))))

/-- Each squashed number is the squashed entry: the two selects on the sign are the sign. -/
theorem squashes_at (x : FVec Ideal S2048x1 .f32) (i : S2048x1.Idx) : squashes x i = squash (x i) := by
  have h := Ideal.jnp_sign_eq_sign_f32 (x i)
  unfold squash
  rw [← h]
  rfl

/-- The words of a block's buckets. -/
def words (x : FVec Ideal S2048x1 .f32) : IVec S2048x1 32 := fptosi 32 (squashes x)

/-- Each word is the word of the entry's bucket. -/
theorem words_at (x : FVec Ideal S2048x1 .f32) (i : S2048x1.Idx) : words x i = BitVec.ofNat 32 (bucket (x i)) := by
  show Ideal.fptosi 32 (squashes x i) = _
  rw [squashes_at, word_squash]

/-- The fractions of a block. -/
def fracs (x : FVec Ideal S2048x1 .f32) : FVec Ideal S2048x1 .f32 := subf (squashes x) (sitofp .f32 (words x))

/-- Each fraction is the entry's fraction. -/
theorem fracs_at (x : FVec Ideal S2048x1 .f32) (i : S2048x1.Idx) : fracs x i = frac (x i) := by
  show squashes x i - (((words x i).toInt : ℝ) : EReal) = _
  rw [squashes_at, words_at, toInt_word _ (by have := bucket_le (x i); omega)]
  rfl

/-- The column numbers. -/
def columns : IVec S2048x19 32 := iota .tc S2048x19 32 [1] iota_S2048x19_d1_w32

/-- The column number at column `j` is `j`. -/
theorem columns_at (r : Fin 2048) (j : Fin 19) : columns (ix2 r j) = BitVec.ofNat 32 j.val := by
  show BitVec.ofNat 32 (0 * 19 + j.val) = _
  rw [Nat.zero_mul, Nat.zero_add]

/-- A column's numbers, each set where the column number is its word, zero elsewhere. -/
def onehot (w : IVec S2048x1 32) (v : FVec Ideal S2048x1 .f32) : FVec Ideal S2048x19 .f32 :=
  select (cmpi .eq columns (broadcastTo S2048x19 w broadcasts_S2048x1_S2048x19))
    (broadcastTo S2048x19 (shapeCast S2048x1 v shapeCasts_S2048x1_S2048x1) broadcasts_S2048x1_S2048x19)
    (broadcast S2048x19 (Scalar.ofBits .f32 0x00000000#32))

/-- Where row `r`'s word is `n`, entry `(r, j)` is the row's number if `j = n` and zero otherwise. -/
theorem onehot_at (w : IVec S2048x1 32) (v : FVec Ideal S2048x1 .f32) (r : Fin 2048) (j : Fin 19) (n : ℕ) (hn : n ≤ 20)
    (hw : w (ix2 r 0) = BitVec.ofNat 32 n) : onehot w v (ix2 r j) = if j.val = n then v (ix2 r 0) else 0 := by
  have hj := j.isLt
  have z : (Scalar.ofBits .f32 0x00000000#32 : Ideal .f32) = (0 : EReal) := Ideal.ofBits_zero_f32
  show Scalar.select (BitVec.ofBool (columns (ix2 r j) == broadcastTo S2048x19 w broadcasts_S2048x1_S2048x19 (ix2 r j)))
    (broadcastTo S2048x19 (shapeCast S2048x1 v shapeCasts_S2048x1_S2048x1) broadcasts_S2048x1_S2048x19 (ix2 r j))
    (Scalar.ofBits .f32 0x00000000#32 : Ideal .f32) = _
  rw [spread_at, spread_at, cast_self, columns_at, hw, z]
  by_cases h : j.val = n
  · rw [if_pos h, h, beq_self_eq_true]
    exact select_one _ _
  · have hne : BitVec.ofNat 32 j.val ≠ BitVec.ofNat 32 n := fun e => h (by
      have := congrArg BitVec.toNat e
      rw [BitVec.toNat_ofNat, BitVec.toNat_ofNat] at this
      omega)
    rw [if_neg h, beq_eq_false_iff_ne.2 hne]
    exact select_zero _ _

/-- What the body writes, in the names above. -/
theorem pay_eq (x : FVec Ideal S2048x1 .f32) :
    k0_pay1 (F := Ideal) x = addf (onehot (words x) (subf (broadcast S2048x1 (Scalar.ofBits .f32 0x3F800000#32)) (fracs x)))
      (onehot (addi (words x) (broadcast S2048x1 1#32)) (fracs x)) := by
  unfold k0_pay1
  dsimp only
  rw [cast_self x]
  rfl

/-- Entry `(r, j)` of what the body writes is column `j` of the two-hot row of the block's entry `r`. -/
theorem pay_at (x : FVec Ideal S2048x1 .f32) (r : Fin 2048) (j : Fin 19) : k0_pay1 (F := Ideal) x (ix2 r j) = entry (x (ix2 r 0)) j.val := by
  have hb := bucket_le (x (ix2 r 0))
  have hw : addi (words x) (broadcast S2048x1 1#32) (ix2 r 0) = BitVec.ofNat 32 (bucket (x (ix2 r 0)) + 1) := by
    show words x (ix2 r 0) + 1#32 = _
    rw [words_at, BitVec.ofNat_add]
  have hs : subf (broadcast S2048x1 (Scalar.ofBits .f32 0x3F800000#32)) (fracs x) (ix2 r 0) = Ideal.ofBits .f32 0x3F800000#32 - frac (x (ix2 r 0)) := by
    show Ideal.ofBits .f32 0x3F800000#32 - fracs x (ix2 r 0) = _
    rw [fracs_at]
  rw [pay_eq]
  show onehot _ _ (ix2 r j) + onehot _ _ (ix2 r j) = _
  rw [onehot_at _ _ r j _ (by omega) (words_at x _), onehot_at _ _ r j _ (by omega) hw, hs, fracs_at]
  exact entry_eq_add _ _

/-! ## The blocks -/

variable (m : (ℓ : Loc nD τ sig) → Buf (Elt Ideal) ℓ) (ρ : Dev nD → PrngReg)

/-- The argument on a device, as a vector. -/
abbrev arg (c : Dev nD) : FVec Ideal S2097152 .f32 := m ((c.tc : Thread nD τ).loc main_arg0)

/-- What the result array is shown to hold: the two-hot rows of the argument's entries. -/
def result (c : Dev nD) : Buf (Elt Ideal) ((c.tc : Thread nD τ).loc main_v1) :=
  fun i : S2097152x19.Idx => entry (arg m c (ix1 (i 0))) (i 1).val

/-- The input array at region entry is the argument set out as one column. -/
theorem input_at (c : Dev nD) (i : Fin 2097152) : V m c main_v0 (ix2 i (0 : Fin 1)) = arg m c (ix1 i) := by
  have e : V m c main_v0 = fun i => shapeCast S2097152x1 (arg m c) shapeCasts_S2097152_S2097152x1 i := by
    show StableHlo.after hostOps0 _ _ = _
    unfold hostOps0
    after_results
    rfl
  rw [e]
  exact cast12 _ _ i 0 i (by simp)

/-- The input window's block index on the rows is the point's number. -/
theorem point_in : ∀ t : Fin cfg0.N, win0_0.index t ⟨0, by decide⟩ = t.val ∧ win0_0.index t ⟨1, by decide⟩ = 0 :=
  (by decide +kernel : ∀ t : Fin grid0.N, win0_0.index t ⟨0, by decide⟩ = t.val ∧ win0_0.index t ⟨1, by decide⟩ = 0)

/-- The output window's block index on the columns is zero. -/
theorem point_out : ∀ t : Fin cfg0.N, win0_1.index t ⟨1, by decide⟩ = 0 :=
  (by decide +kernel : ∀ t : Fin grid0.N, win0_1.index t ⟨1, by decide⟩ = 0)

/-- There are 1024 grid points. -/
theorem points : cfg0.N = 1024 := by decide +kernel

/-- The row of the arrays at row `r` of point `t`'s blocks. -/
def row (t : Fin cfg0.N) (r : Fin 2048) : Fin 2097152 :=
  ⟨t.val * 2048 + r.val, by have := t.isLt; have := r.isLt; have := points; omega⟩

/-- Row `r` of point `t`'s input block is the argument's entry at that row. -/
theorem block_at (c : Dev nD) (t : Fin cfg0.N) (r : Fin 2048) : iblk m c 0 t (ix2 r (0 : Fin 1)) = arg m c (ix1 (row t r)) := by
  rw [← input_at]
  show V m c main_v0 ((win0_0.rect t).emb (ix2 r (0 : Fin 1))) = _
  congr 1
  refine funext fun a => Fin.ext ?_
  match a with
  | ⟨0, _⟩ =>
    refine (Pipeline.Window.rect_emb_val win0_0 t _ ⟨0, by decide⟩).trans ?_
    rw [(point_in t).1]
    rfl
  | ⟨1, _⟩ =>
    refine (Pipeline.Window.rect_emb_val win0_0 t _ ⟨1, by decide⟩).trans ?_
    rw [(point_in t).2]
    rfl

/-- Entry `(r, j)` of point `t`'s output block sits at that row and column `j`. -/
theorem out_emb (t : Fin cfg0.N) (r : Fin 2048) (j : Fin 19) : (win0_1.rect t).emb (ix2 r j) = ix2 (row t r) j := by
  refine funext fun a => Fin.ext ?_
  match a with
  | ⟨0, _⟩ =>
    refine (Pipeline.Window.rect_emb_val win0_1 t _ ⟨0, by decide⟩).trans ?_
    rw [Value.idx_pt1 t]
    rfl
  | ⟨1, _⟩ =>
    refine (Pipeline.Window.rect_emb_val win0_1 t _ ⟨1, by decide⟩).trans ?_
    rw [point_out t]
    exact (Nat.zero_add _)

/-- The block is stored and loaded at offset zero on both axes. -/
theorem zeros : (![0, 0] : Fin 2 → Nat) = fun _ => 0 := funext fun a => by fin_cases a <;> rfl

/-- What point `t` writes back is its block of the two-hot rows. -/
theorem flushed_eq (c : Dev nD) (t : Fin cfg0.N) : (dats m 0 c).flushed 1 t = ((cfg0.win 1).blk t).view.read (Elt Ideal) (result m c) := by
  rw [Value.flushed1]
  unfold out0_1
  rw [View.canon_unit_zero zeros, View.ld_unit_zero zeros]
  funext y
  obtain ⟨r, j, rfl⟩ : ∃ (r : Fin 2048) (j : Fin 19), y = ix2 r j := ⟨y 0, y 1, eq_ix2 y⟩
  show k0_pay1 (iblk m c 0 t) (ix2 r j) = result m c ((win0_1.rect t).emb (ix2 r j))
  rw [out_emb, pay_at, block_at]
  rfl

/-- Every entry of the result is in some point's block: row `i` in that of point `i / 2048`. -/
theorem cover (i : S2097152x19.Idx) : ∃ t : Fin cfg0.N, (cfg0.win 1).flush t = true ∧ i ∈ ((cfg0.win 1).blk t).view.set := by
  obtain ⟨a, j, rfl⟩ : ∃ (a : Fin 2097152) (j : Fin 19), i = ix2 a j := ⟨i 0, i 1, eq_ix2 i⟩
  have ha := a.isLt
  have hN := points
  let t : Fin cfg0.N := ⟨a.val / 2048, by omega⟩
  let r : Fin 2048 := ⟨a.val % 2048, Nat.mod_lt _ (by omega)⟩
  refine ⟨t, flush0_1 t, ?_⟩
  have e : ix2 a j = (win0_1.rect t).emb (ix2 r j) := by
    rw [out_emb]
    refine congrArg (fun q => ix2 q j) (Fin.ext ?_)
    show a.val = a.val / 2048 * 2048 + a.val % 2048
    omega
  rw [e]
  exact ((cfg0.win 1).blk t).view.emb_mem_set (ix2 r j)

/-- So the result array ends holding the two-hot rows. -/
theorem final (c : Dev nD) : (dats m 0 c).arrAt 1 cfg0.N = result m c :=
  (dats m 0 c).arrAt_eq_of_cover 1 (result m c) (fun t _ => flushed_eq m c t) cover

/-- The kernel's run: the result holds the two-hot rows of the argument, and the argument is unchanged. -/
theorem run : θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0) :=
  (θ_run defs _ _).mono (fun _ h c => ⟨((h c).1).trans (final m c), (h c).2⟩) (Value.run_blocks m ρ)

end Cert.KernelIdeal.TwoHotValue
-- ==== Proof.PairScatter.lean ====
/-
  A scatter of `N` scalars into a matrix, each with a row word and a column word, where update `i`'s row word is `i`
  itself: entry `(i, j)` of the result is update `i` if its column word is `j`, and the operand's entry otherwise. A column word
  outside the matrix drops the update.
-/
module

public import Idealize.ShloMosaic.Lib.Routing.OpsPair
public import Idealize.ShloMosaic.Lib.Routing.OpsSet
public import Idealize.ShloMosaic.Lib.Routing.Ops
public import Idealize.ShloMosaic.Lib.Pipeline.Value

@[expose] public section

namespace Cert.PairScatter

open Idealize.ShloMosaic Idealize.ShloMosaic.ValueIdx Idealize.ShloMosaic.Routing

/-- Update `k` of a scatter of `N` scalars by word pairs lands at `(r, c)` exactly when its two words, read signed, are `r` and `c`. -/
theorem lands {R C N w : Nat} (d : ScatterDims (shape2 R C) (shape2 N 2) (shape1 N)) (hins : d.insertedWindowDims = [0, 1])
    (hto : d.scatterDimsToOperandDims = [0, 1]) (hvec : d.indexVectorDim = 1) (idx : IVec (shape2 N 2) w) (k : Fin N) (r : Fin R) (c : Fin C) :
    d.resultIdx? (ix1 k) idx = some (ix2 r c) ↔ (idx (ix2 k 0)).toInt = r.val ∧ (idx (ix2 k 1)).toInt = c.val := by
  have hwd : d.updateWindowDims = [] := by
    have h : d.updateWindowDims.length = ((shape2 R C).kept d.insertedWindowDims).length := d.window_length
    rw [hins] at h
    exact List.eq_nil_of_length_eq_zero h
  have hmem : ∀ q : Fin 2, q ∈ d.scatterDimsToOperandDims := by
    intro q
    rw [hto]
    fin_cases q <;> simp
  have hwindow : ∀ q : Fin 2, d.window (ix1 k) q = 0 := by
    intro q
    unfold ScatterDims.window
    exact dif_neg fun h => (of_decide_eq_true (List.mem_filter.1 h).2) (by rw [hins]; fin_cases q <;> simp)
  have hscat : d.uScatter = [0] := by
    show (shape1 N).kept d.updateWindowDims = _
    rw [hwd]
    rfl
  have hget : ∀ (l : List (Fin 1)) (n : ℕ) (h : n < l.length), l[n]'h = 0 := fun l n h => Subsingleton.elim _ _
  have hword : ∀ q : Fin 2, d.start (ix1 k) idx q = (idx (ix2 k q)).toInt := by
    intro q
    unfold ScatterDims.start
    rw [dif_pos (hmem q)]
    refine congrArg (fun p => (idx p).toInt) (funext fun a => Fin.ext ?_)
    match a with
    | ⟨0, _⟩ =>
      unfold ScatterDims.siIdx
      rw [dif_neg (by rw [hvec]; exact Nat.zero_ne_one)]
      unfold ScatterDims.siCoord
      simp only [Fin.val_cast]
      rw [hget]
    | ⟨1, _⟩ =>
      unfold ScatterDims.siIdx
      rw [dif_pos (by rw [hvec])]
      show List.idxOf q d.scatterDimsToOperandDims = q.val
      rw [hto]
      fin_cases q <;> rfl
  rw [resultIdx?_ix2, hword, hword, hwindow, hwindow]
  omega

/-- The scatter whose update `i` has row word `i`, read at `(i, j)`: update `i` if its column word is `j`, else the operand's entry. -/
theorem rowwise {α : Type} {N C w : Nat} (d : ScatterDims (shape2 N C) (shape2 N 2) (shape1 N)) (hins : d.insertedWindowDims = [0, 1])
    (hto : d.scatterDimsToOperandDims = [0, 1]) (hvec : d.indexVectorDim = 1) (x0 : (shape2 N C).Idx → α) (idx : IVec (shape2 N 2) w)
    (upd : (shape1 N).Idx → α) (hrow : ∀ k : Fin N, (idx (ix2 k 0)).toInt = k.val) (i : Fin N) (j : Fin C) :
    Host.scatter d (fun _ b => b) x0 idx upd (ix2 i j)
      = if (idx (ix2 i 1)).toInt = j.val then upd (ix1 i) else x0 (ix2 i j) := by
  have key : ∀ k : (shape1 N).Idx, d.resultIdx? k idx = some (ix2 i j) → k = ix1 i ∧ (idx (ix2 i 1)).toInt = j.val := by
    intro k hk
    obtain ⟨k', rfl⟩ : ∃ k' : Fin N, k = ix1 k' := ⟨k 0, eq_ix1 k⟩
    obtain ⟨h0, h1⟩ := (lands d hins hto hvec idx k' i j).1 hk
    rw [hrow] at h0
    have e : k' = i := Fin.ext (by exact_mod_cast h0)
    subst e
    exact ⟨rfl, h1⟩
  by_cases h : (idx (ix2 i 1)).toInt = j.val
  · rw [if_pos h]
    exact scatter_set_hit d x0 idx upd (ix2 i j) _ (fun k hk => by rw [(key k hk).1]) (ix1 i) ((lands d hins hto hvec idx i i j).2 ⟨hrow i, h⟩)
  · rw [if_neg h]
    exact scatter_set_miss d x0 idx upd (ix2 i j) fun k hk => h (key k hk).2

/-- Two columns set side by side: column 0 is the first. -/
theorem beside_0 {α : Type} {N : Nat} (x y : (shape2 N 1).Idx → α) (h : Shape.Concatenates [shape2 N 1, shape2 N 1] (shape2 N 2) 1) (k : Fin N) :
    concatenate (shape2 N 2) 1 [⟨shape2 N 1, x⟩, ⟨shape2 N 1, y⟩] h (ix2 k 0) = x (ix2 k 0) := by
  refine concatenate_pair_apply_left 1 x y h _ rfl _ fun b => ?_
  match b with
  | ⟨0, _⟩ => rfl
  | ⟨1, _⟩ => rfl

/-- Two columns set side by side: column 1 is the second. -/
theorem beside_1 {α : Type} {N : Nat} (x y : (shape2 N 1).Idx → α) (h : Shape.Concatenates [shape2 N 1, shape2 N 1] (shape2 N 2) 1) (k : Fin N) :
    concatenate (shape2 N 2) 1 [⟨shape2 N 1, x⟩, ⟨shape2 N 1, y⟩] h (ix2 k 1) = y (ix2 k 0) := by
  refine concatenate_pair_apply_right 1 x y h _ rfl rfl _ (fun b hb => ?_) rfl
  match b, hb with
  | ⟨0, _⟩, _ => rfl
  | ⟨1, _⟩, hb => exact (hb rfl).elim

end Cert.PairScatter
-- ==== Proof.RefValue.lean ====
/-
  The reference's result, entry by entry: row `i`, column `j` is column `j` of the two-hot row of the argument's
  entry `i`. The reference's run leaves the result as one long term of whole-array operations; here the term is cut into
  named arrays (the squashed numbers, their floors, the words, the two index tables), each is read at an entry,
  and the two scatters are read with the lemmas on scatters by word pairs.
-/
module

public import proofs.«01_k».proof.Proof.Gen.ReferenceIdeal.Run
public import proofs.«01_k».proof.Proof.TwoHot
public import proofs.«01_k».proof.Proof.PairScatter

@[expose] public section

noncomputable section

namespace Cert.ReferenceIdeal.TwoHotValue

open Cert.ReferenceIdeal Cert.ReferenceIdeal.Gen Cert.ReferenceIdeal.Value Idealize.ShloMosaic Idealize.ShloMosaic.TcCoe Idealize.SL.Sem
open Idealize.ShloMosaic.ValueIdx Idealize.ShloMosaic.Routing Cert.TwoHot

/-- A 32-bit float constant at every entry of a vector. -/
def allF (b : BitVec 32) : FVec Ideal S2097152 .f32 := broadcastInDim S2097152 ![] bcast_S_S2097152 (constant S_ .f32 b)

/-- A word at every entry of a vector. -/
def allW (b : BitVec 32) : IVec S2097152 32 := broadcastInDim S2097152 ![] bcast_S_S2097152 (constantI S_ 32 b)

/-- The squashed and clipped numbers. -/
def squashes (x : FVec Ideal S2097152 .f32) : FVec Ideal S2097152 .f32 :=
  minimumf (broadcastInDim S2097152 ![] bcast_S_S2097152 (id (constant S_ .f32 0x41980000#32)))
    (maximumf (broadcastInDim S2097152 ![] bcast_S_S2097152 (id (constant S_ .f32 0x00000000#32)))
      (mulf (Host.sign x) (addf (subf (Host.sqrt (addf (Host.absf x) (allF 0x3F800000#32))) (allF 0x3F800000#32)) (mulf (allF 0x3A83126F#32) x))))

/-- Their buckets, as words. -/
def words (x : FVec Ideal S2097152 .f32) : IVec S2097152 32 := fptosi 32 (Host.floor (squashes x))

/-- Their fractions. -/
def fracs (x : FVec Ideal S2097152 .f32) : FVec Ideal S2097152 .f32 := subf (squashes x) (Host.floor (squashes x))

/-- Negative words moved up by `n`, as array indexing counts from the end. -/
def wrapped (n : BitVec 32) (w : IVec S2097152 32) : IVec S2097152 32 := select (cmpi .slt w (allW 0#32)) (addi w (allW n)) w

/-- A vector of row words and one of column words, as a table of pairs. -/
def pairs (r q : IVec S2097152 32) : IVec S2097152x2 32 :=
  concatenate S2097152x2 1 [⟨S2097152x1, broadcastInDim S2097152x1 ![0] bcast_S2097152_S2097152x1_0 r⟩,
    ⟨S2097152x1, broadcastInDim S2097152x1 ![0] bcast_S2097152_S2097152x1_0 q⟩] concatenates_S2097152x1_S2097152x1_S2097152x2_d1

/-- The row words: entry `i` is `i`. -/
def rows : IVec S2097152 32 := wrapped 2097152#32 (iotaInDim S2097152 32 0)

/-- The words of the buckets after. -/
def nexts (x : FVec Ideal S2097152 .f32) : IVec S2097152 32 := addi (words x) (allW 1#32)

/-- Whether the bucket after is a column of the result. -/
def inside (x : FVec Ideal S2097152 .f32) : IVec S2097152 1 := cmpi .slt (nexts x) (allW 19#32)

/-- The result's term, in the names above. -/
def encode (x : FVec Ideal S2097152 .f32) : FVec Ideal S2097152x19 .f32 :=
  Host.scatter scatter_S2097152x19_S2097152x2_S2097152_n_01_01_1 (fun _ b => b)
    (Host.scatter scatter_S2097152x19_S2097152x2_S2097152_n_01_01_1 (fun _ b => b)
      (broadcastInDim S2097152x19 ![] bcast_S_S2097152x19 (constant S_ .f32 0x00000000#32))
      (pairs rows (wrapped 19#32 (words x))) (subf (allF 0x3F800000#32) (fracs x)))
    (pairs rows (wrapped 19#32 (select (inside x) (nexts x) (allW 19#32)))) (select (inside x) (fracs x) (allF 0x00000000#32))

set_option maxRecDepth 16384 in
/-- The reference's result is that term of its argument. -/
theorem res_eq (m : (ℓ : Loc nD τ sig) → Buf (Elt Ideal) ℓ) (c : Dev nD) :
    res_main_v52 m c = encode (m ((c.tc : Thread nD τ).loc main_arg0)) := rfl

/-! ## The named arrays at an entry -/

/-- The constant vector holds its constant at every entry. -/
theorem allF_at (b : BitVec 32) (i : Fin 2097152) : allF b (ix1 i) = Ideal.ofBits .f32 b := bc0 _ _ _

/-- The constant word vector holds its word at every entry. -/
theorem allW_at (b : BitVec 32) (i : Fin 2097152) : allW b (ix1 i) = b := bc0 _ _ _

/-- Entry `i` of the squashed numbers is the squashed entry `i`. -/
theorem squashes_at (x : FVec Ideal S2097152 .f32) (i : Fin 2097152) : squashes x (ix1 i) = squash (x (ix1 i)) := by
  have e0 : ∀ b : BitVec 32, broadcastInDim S2097152 ![] bcast_S_S2097152 (id (constant (F := Ideal) S_ .f32 b)) (ix1 i) = Ideal.ofBits .f32 b :=
    fun b => bc0 _ _ _
  show min (broadcastInDim S2097152 ![] bcast_S_S2097152 (id (constant (F := Ideal) S_ .f32 0x41980000#32)) (ix1 i))
    (max (broadcastInDim S2097152 ![] bcast_S_S2097152 (id (constant (F := Ideal) S_ .f32 0x00000000#32)) (ix1 i))
      (Ideal.sign (x (ix1 i)) * ((Ideal.sqrt (max (x (ix1 i)) (-x (ix1 i)) + allF 0x3F800000#32 (ix1 i)) - allF 0x3F800000#32 (ix1 i))
        + allF 0x3A83126F#32 (ix1 i) * x (ix1 i)))) = _
  rw [e0, e0, allF_at, allF_at]
  rfl

/-- Entry `i` of the floors is the bucket of entry `i`. -/
theorem floor_at (x : FVec Ideal S2097152 .f32) (i : Fin 2097152) : Host.floor (squashes x) (ix1 i) = ((bucket (x (ix1 i)) : ℝ) : EReal) := by
  show Ideal.liftRound Int.floor (squashes x (ix1 i)) = _
  rw [squashes_at, floor_squash]

/-- Entry `i` of the words is the word of entry `i`'s bucket. -/
theorem words_at (x : FVec Ideal S2097152 .f32) (i : Fin 2097152) : words x (ix1 i) = BitVec.ofNat 32 (bucket (x (ix1 i))) := by
  show Ideal.fptosi 32 (Host.floor (squashes x) (ix1 i)) = _
  rw [floor_at, word_bucket]

/-- Entry `i` of the fractions is entry `i`'s fraction. -/
theorem fracs_at (x : FVec Ideal S2097152 .f32) (i : Fin 2097152) : fracs x (ix1 i) = frac (x (ix1 i)) := by
  show squashes x (ix1 i) - Host.floor (squashes x) (ix1 i) = _
  rw [floor_at, squashes_at]
  rfl

/-- A word below 2³¹ is not moved. -/
theorem wrapped_at (n : BitVec 32) (w : IVec S2097152 32) (i : Fin 2097152) (h : (w (ix1 i)).toNat < 2 ^ 31) :
    wrapped n w (ix1 i) = w (ix1 i) := by
  show Scalar.select (IntOp.cmpi .slt (w (ix1 i)) (allW 0#32 (ix1 i))) _ (w (ix1 i)) = _
  rw [allW_at]
  exact wrap_of_lt _ _ h

/-- The row word at `i` is `i`. -/
theorem rows_at (i : Fin 2097152) : rows (ix1 i) = BitVec.ofNat 32 i.val := by
  have h : (iotaInDim S2097152 32 0 : IVec S2097152 32) (ix1 i) = BitVec.ofNat 32 i.val := rfl
  unfold rows
  rw [wrapped_at _ _ _ (by rw [h, BitVec.toNat_ofNat]; have := i.isLt; omega), h]

/-- The first word of pair `i` is its row word. -/
theorem pairs_row (r q : IVec S2097152 32) (i : Fin 2097152) : pairs r q (ix2 i 0) = r (ix1 i) := by
  unfold pairs
  exact (PairScatter.beside_0 _ _ _ i).trans (bcCol _ _ i)

/-- The second word of pair `i` is its column word. -/
theorem pairs_column (r q : IVec S2097152 32) (i : Fin 2097152) : pairs r q (ix2 i 1) = q (ix1 i) := by
  unfold pairs
  exact (PairScatter.beside_1 _ _ _ i).trans (bcCol _ _ i)

/-- Entry `i` of the words after is one more than entry `i`'s bucket. -/
theorem nexts_at (x : FVec Ideal S2097152 .f32) (i : Fin 2097152) : nexts x (ix1 i) = BitVec.ofNat 32 (bucket (x (ix1 i)) + 1) := by
  show words x (ix1 i) + allW 1#32 (ix1 i) = _
  rw [words_at, allW_at, BitVec.ofNat_add]

/-- Whether the bucket after is a column: it is when it is below 19. -/
theorem inside_at (x : FVec Ideal S2097152 .f32) (i : Fin 2097152) :
    inside x (ix1 i) = BitVec.ofBool (decide (bucket (x (ix1 i)) + 1 < 19)) := by
  show BitVec.ofBool ((nexts x (ix1 i)).slt (allW 19#32 (ix1 i))) = _
  have hb := bucket_le (x (ix1 i))
  rw [nexts_at, allW_at, BitVec.slt_eq_decide, toInt_word _ (by omega), toInt_word 19 (by omega)]
  congr 2
  exact propext (by norm_cast)

/-- A scatter by the table of row words and small column words, read at an entry. -/
theorem scatter_at_entry (x0 : FVec Ideal S2097152x19 .f32) (q : IVec S2097152 32) (upd : FVec Ideal S2097152 .f32) (i : Fin 2097152) (j : Fin 19)
    (n : ℕ) (hn : n ≤ 20) (hq : q (ix1 i) = BitVec.ofNat 32 n) :
    Host.scatter scatter_S2097152x19_S2097152x2_S2097152_n_01_01_1 (fun _ b => b) x0 (pairs rows (wrapped 19#32 q)) upd (ix2 i j)
      = if j.val = n then upd (ix1 i) else x0 (ix2 i j) := by
  refine (PairScatter.rowwise scatter_S2097152x19_S2097152x2_S2097152_n_01_01_1 rfl rfl rfl x0 _ upd (fun k => ?_) i j).trans ?_
  · rw [pairs_row, rows_at]
    exact StableHlo.Predicate.toInt_ofNat_small _ (by have := k.isLt; omega)
  · rw [pairs_column, wrapped_at _ _ _ (by rw [hq, BitVec.toNat_ofNat]; omega), hq, toInt_word n hn]
    by_cases h : j.val = n
    · rw [if_pos h, if_pos (by exact_mod_cast h.symm)]
    · rw [if_neg h, if_neg (by intro e; exact h (by exact_mod_cast e.symm))]

/-- Entry `(i, j)` of the reference's result is column `j` of the two-hot row of the argument's entry `i`. -/
theorem encode_at (x : FVec Ideal S2097152 .f32) (i : Fin 2097152) (j : Fin 19) : encode x (ix2 i j) = entry (x (ix1 i)) j.val := by
  have hb := bucket_le (x (ix1 i))
  have hj := j.isLt
  have first : Host.scatter scatter_S2097152x19_S2097152x2_S2097152_n_01_01_1 (fun _ b => b)
      (broadcastInDim S2097152x19 ![] bcast_S_S2097152x19 (constant (F := Ideal) S_ .f32 0x00000000#32))
      (pairs rows (wrapped 19#32 (words x))) (subf (allF 0x3F800000#32) (fracs x)) (ix2 i j)
      = if j.val = bucket (x (ix1 i)) then Ideal.ofBits .f32 0x3F800000#32 - frac (x (ix1 i)) else 0 := by
    rw [scatter_at_entry _ _ _ i j _ (by omega) (words_at x i), bc0]
    have e : subf (allF 0x3F800000#32) (fracs x) (ix1 i) = Ideal.ofBits .f32 0x3F800000#32 - frac (x (ix1 i)) := by
      show allF 0x3F800000#32 (ix1 i) - fracs x (ix1 i) = _
      rw [allF_at, fracs_at]
    have z : (constant (F := Ideal) S_ .f32 0x00000000#32 ix0 : EReal) = 0 := Ideal.ofBits_zero_f32
    rw [e, z]
  unfold encode entry
  by_cases h : bucket (x (ix1 i)) + 1 < 19
  · have hin : inside x (ix1 i) = 1#1 := by rw [inside_at, decide_eq_true h]; rfl
    have hq : select (inside x) (nexts x) (allW 19#32) (ix1 i) = BitVec.ofNat 32 (bucket (x (ix1 i)) + 1) := by
      rw [select_apply, hin, select_one, nexts_at]
    have hu : select (inside x) (fracs x) (allF 0x00000000#32) (ix1 i) = frac (x (ix1 i)) := by
      rw [select_apply, hin, select_one, fracs_at]
    rw [scatter_at_entry _ _ _ i j _ (by omega) hq, first, hu]
    by_cases h1 : j.val = bucket (x (ix1 i))
    · rw [if_pos h1, if_pos h1, if_neg (by omega)]
    · rw [if_neg h1, if_neg h1]
  · have hin : inside x (ix1 i) = 0#1 := by rw [inside_at, decide_eq_false h]; rfl
    have hq : select (inside x) (nexts x) (allW 19#32) (ix1 i) = BitVec.ofNat 32 19 := by
      rw [select_apply, hin, select_zero, allW_at]
    rw [scatter_at_entry _ _ _ i j _ (by omega) hq, first, if_neg (by omega)]
    by_cases h1 : j.val = bucket (x (ix1 i))
    · rw [if_pos h1, if_pos h1]
    · rw [if_neg h1, if_neg h1, if_neg (by omega)]

end Cert.ReferenceIdeal.TwoHotValue
-- ==== Proof.lean ====
/-
  The proof of `Cert.Claim`: the printed kernel, the idealized kernel and the reference each run to the end, leave
  their argument as it was and every counter at zero; the idealized kernel is the printed one with the sign-bit rule
  applied; and the idealized kernel and the reference leave equal results. Both results are the two-hot rows of
  the argument's entries (`TwoHot.entry`): `KernelValue` shows it of the kernel, `RefValue` of the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelValue
public import proofs.«01_k».proof.Proof.RefValue
public import Idealize.ShloMosaic.Adequacy
public import Idealize.ShloMosaic.Init
public import Idealize.ShloMosaic.Lib.Quiescent

@[expose] public section

noncomputable section

namespace Cert.Proof

open Idealize.ShloMosaic Idealize.SL.Sem Idealize.ShloMosaic.ValueIdx

/-- The reference runs to the end with its argument unchanged; it has no semaphore, so every counter is zero. -/
theorem reference_frame : Cert.quiescent_ReferenceIdeal (hReferenceIdeal := Cert.ReferenceIdeal.Gen.facts) := fun m g _ =>
  (θ_run Cert.ReferenceIdeal.defs _ _).mono (fun r h => ⟨fun c => (h c).2, sem_eq_zero_of_no_sems rfl r.2⟩)
    (Cert.ReferenceIdeal.Value.run m g)

/-- The idealized kernel and the reference, run on equal arguments, leave equal results. -/
theorem same_result : Cert.algebraic_KernelIdeal_ReferenceIdeal (hKernelIdeal := Cert.KernelIdeal.Gen.facts)
    (hReferenceIdeal := Cert.ReferenceIdeal.Gen.facts) := fun m g m' g' _ harg =>
  ⟨Cert.KernelIdeal.TwoHotValue.result m, Cert.KernelIdeal.TwoHotValue.run m g,
    (θ_run Cert.ReferenceIdeal.defs _ _).mono (fun r h c => ⟨by
        refine ((h c).1).trans ((Cert.ReferenceIdeal.TwoHotValue.res_eq m' c).trans ?_)
        rw [harg c]
        funext i
        obtain ⟨a, j, rfl⟩ : ∃ (a : Fin 2097152) (j : Fin 19), i = ix2 a j := ⟨i 0, i 1, eq_ix2 i⟩
        exact Cert.ReferenceIdeal.TwoHotValue.encode_at _ a j, (h c).2⟩)
      (Cert.ReferenceIdeal.Value.run m' g')⟩

/-- Everything claimed of the three programs. -/
theorem claim : Cert.Claim :=
  ⟨Cert.Kernel.Gen.facts, Cert.KernelIdeal.Gen.facts, Cert.ReferenceIdeal.Gen.facts,
    fun m g _ => Cert.Kernel.Gen.frame m g,
    fun m g _ => Cert.KernelIdeal.Gen.frame m g,
    reference_frame,
    IdealRules.sign_bit.statement Cert.KernelIdeal.S2048x1 .f32,
    same_result⟩

end Cert.Proof

end
